-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
-- ==== Pre_finite_arguments.lean ====
abbrev S32768x768 : Shape := ⟨2, ![32768, 768]⟩
abbrev S64x768 : Shape := ⟨2, ![64, 768]⟩
abbrev S64 : Shape := ⟨1, ![64]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S64x768 : S_.BroadcastsInDim S64x768 (![] : Fin 0 → Fin S64x768.rank)
  reducesTo_S64x768_S_d0_1 : S64x768.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S32768x768 .f32) (main_arg1 : FVec F S64x768 .f32) (main_arg2 : FVec F S64 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S32768x768 : Shape := ⟨2, ![32768, 768]⟩
abbrev S64x768 : Shape := ⟨2, ![64, 768]⟩
abbrev S64 : Shape := ⟨1, ![64]⟩
abbrev S64x1 : Shape := ⟨2, ![64, 1]⟩
abbrev S8x32768 : Shape := ⟨2, ![8, 32768]⟩
abbrev S4096x768 : Shape := ⟨2, ![4096, 768]⟩
abbrev S8x4096 : Shape := ⟨2, ![8, 4096]⟩
abbrev S64x4096 : Shape := ⟨2, ![64, 4096]⟩
abbrev S4096 : Shape := ⟨1, ![4096]⟩
abbrev S1x4096 : Shape := ⟨2, ![1, 4096]⟩
abbrev S32768x8 : Shape := ⟨2, ![32768, 8]⟩

abbrev nBuf : Space → Nat
  | .hbm => 8
  | .vmem => 8
  | .smem => 0
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S64, .f32⟩
  | .hbm, ⟨3, _⟩ => ⟨S64x1, .f32⟩
  | .hbm, ⟨4, _⟩ => ⟨S8x32768, .f32⟩
  | .hbm, ⟨5, _⟩ => ⟨S8x32768, .i32⟩
  | .hbm, ⟨6, _⟩ => ⟨S32768x8, .f32⟩
  | .hbm, ⟨7, _⟩ => ⟨S32768x8, .i32⟩
  | .local _ .vmem, ⟨0, _⟩ => ⟨S4096x768, .f32⟩
  | .local _ .vmem, ⟨1, _⟩ => ⟨S4096x768, .f32⟩
  | .local _ .vmem, ⟨2, _⟩ => ⟨S64x768, .f32⟩
  | .local _ .vmem, ⟨3, _⟩ => ⟨S64x1, .f32⟩
  | .local _ .vmem, ⟨4, _⟩ => ⟨S8x4096, .f32⟩
  | .local _ .vmem, ⟨5, _⟩ => ⟨S8x4096, .f32⟩
  | .local _ .vmem, ⟨6, _⟩ => ⟨S8x4096, .i32⟩
  | .local _ .vmem, ⟨7, _⟩ => ⟨S8x4096, .i32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x4096 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32768x768 : Shape := ⟨2, ![32768, 768]⟩
abbrev S64x768 : Shape := ⟨2, ![64, 768]⟩
abbrev S64 : Shape := ⟨1, ![64]⟩
abbrev S768x64 : Shape := ⟨2, ![768, 64]⟩
abbrev S32768x64 : Shape := ⟨2, ![32768, 64]⟩
abbrev S_ : Shape := ⟨0, ![]⟩
abbrev S1x64 : Shape := ⟨2, ![1, 64]⟩
abbrev S32768x8 : Shape := ⟨2, ![32768, 8]⟩
abbrev S32768x8x1 : Shape := ⟨3, ![32768, 8, 1]⟩
abbrev S1 : Shape := ⟨1, ![1]⟩
abbrev S1x1x1 : Shape := ⟨3, ![1, 1, 1]⟩
abbrev S32768 : Shape := ⟨1, ![32768]⟩
abbrev S32768x1 : Shape := ⟨2, ![32768, 1]⟩

abbrev nBuf : Space → Nat
  | .hbm => 45
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S64, .f32⟩
  | .hbm, ⟨3, _⟩ => ⟨S768x64, .f32⟩
  | .hbm, ⟨4, _⟩ => ⟨S32768x64, .f32⟩
  | .hbm, ⟨5, _⟩ => ⟨S32768x64, .f32⟩
  | .hbm, ⟨6, _⟩ => ⟨S32768x64, .f32⟩
  | .hbm, ⟨7, _⟩ => ⟨S_, .f32⟩
  | .hbm, ⟨8, _⟩ => ⟨S32768x64, .f32⟩
  | .hbm, ⟨9, _⟩ => ⟨S32768x64, .f32⟩
  | .hbm, ⟨10, _⟩ => ⟨S_, .f32⟩
  | .hbm, ⟨11, _⟩ => ⟨S32768x64, .f32⟩
  | .hbm, ⟨12, _⟩ => ⟨S32768x64, .f32⟩
  | .hbm, ⟨13, _⟩ => ⟨S1x64, .f32⟩
  | .hbm, ⟨14, _⟩ => ⟨S32768x64, .f32⟩
  | .hbm, ⟨15, _⟩ => ⟨S32768x64, .f32⟩
  | .hbm, ⟨16, _⟩ => ⟨S32768x8, .f32⟩
  | .hbm, ⟨17, _⟩ => ⟨S32768x8, .i32⟩
  | .hbm, ⟨18, _⟩ => ⟨S_, .i32⟩
  | .hbm, ⟨19, _⟩ => ⟨S32768x8, .i32⟩
  | .hbm, ⟨20, _⟩ => ⟨S32768x8, .i1⟩
  | .hbm, ⟨21, _⟩ => ⟨S_, .i32⟩
  | .hbm, ⟨22, _⟩ => ⟨S32768x8, .i32⟩
  | .hbm, ⟨23, _⟩ => ⟨S32768x8, .i32⟩
  | .hbm, ⟨24, _⟩ => ⟨S32768x8, .i32⟩
  | .hbm, ⟨25, _⟩ => ⟨S32768x8x1, .i32⟩
  | .hbm, ⟨26, _⟩ => ⟨S1, .i32⟩
  | .hbm, ⟨27, _⟩ => ⟨S_, .i32⟩
  | .hbm, ⟨28, _⟩ => ⟨S32768x8x1, .i32⟩
  | .hbm, ⟨29, _⟩ => ⟨S32768x8x1, .i1⟩
  | .hbm, ⟨30, _⟩ => ⟨S1x1x1, .i32⟩
  | .hbm, ⟨31, _⟩ => ⟨S32768x8x1, .i32⟩
  | .hbm, ⟨32, _⟩ => ⟨S32768x8x1, .i1⟩
  | .hbm, ⟨33, _⟩ => ⟨S32768x8x1, .i1⟩
  | .hbm, ⟨34, _⟩ => ⟨S_, .i1⟩
  | .hbm, ⟨35, _⟩ => ⟨S32768x8, .i1⟩
  | .hbm, ⟨36, _⟩ => ⟨S32768x8, .f32⟩
  | .hbm, ⟨37, _⟩ => ⟨S_, .f32⟩
  | .hbm, ⟨38, _⟩ => ⟨S32768x8, .f32⟩
  | .hbm, ⟨39, _⟩ => ⟨S32768x8, .f32⟩
  | .hbm, ⟨40, _⟩ => ⟨S_, .f32⟩
  | .hbm, ⟨41, _⟩ => ⟨S32768, .f32⟩
  | .hbm, ⟨42, _⟩ => ⟨S32768x1, .f32⟩
  | .hbm, ⟨43, _⟩ => ⟨S32768x8, .f32⟩
  | .hbm, ⟨44, _⟩ => ⟨S32768x8, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_values : Ref sig .tc := ⟨.hbm, 16, rfl⟩
abbrev main_indices : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_cst : Ref sig .tc := ⟨.hbm, 37, rfl⟩
abbrev main_call0_v14 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩

abbrev nD : Nat := 1
abbrev τ : Topo := Topo.v7x

variable {F : FTy → Type} [FloatOps F]
-- ==== Proof.Rounds.lean ====
/-
  The selection as mathematics, on one token's 64 (here: `n`) expert scores, extended reals. A sort that is stable and
  puts greater scores first is compared with a search in rounds: each round takes the greatest score left, among the
  experts that attain it the one with the least key, and removes that expert by writing −∞ over its score. Where every
  score is above −∞ and the keys grow with the expert's number, round `r` finds the expert at place `r` of the sort.
-/
module

public import Mathlib.Data.EReal.Basic
public import Mathlib.Data.Finset.Lattice.Fold
public import Idealize.ShloMosaic.Lib.SortFacts

@[expose] public section

noncomputable section

namespace Cert.Routing

open Idealize.ShloMosaic

variable {n : Nat}

/-! ## The order of the experts -/

/-- Expert `i` has the greater score than expert `j`. -/
def greater (w : Fin n → EReal) (i j : Fin n) : Bool := decide (w j < w i)

/-- Expert `i` comes before expert `j`: its score is greater, or the scores are equal and its number is lower. -/
def ahead (w : Fin n → EReal) (i j : Fin n) : Bool := decide (w j < w i ∨ w i = w j ∧ i < j)

/-- The expert at each place when the scores are sorted, greatest first, equal scores in the experts' order. -/
def ranked (w : Fin n → EReal) : Fin n → Fin n := sortedFrom (greater w)

/-- Sorting an ascending list of experts, stably, by score alone is sorting it by score and then number: the sort only
    ever asks whether a later expert goes before an earlier one. -/
theorem stableSort_greater (w : Fin n → EReal) (l : List (Fin n)) (hl : l.Pairwise (· < ·)) :
    stableSort (greater w) l = stableSort (ahead w) l := by
  induction l with
  | nil => rfl
  | cons a l ih =>
    rw [List.pairwise_cons] at hl
    unfold stableSort
    rw [ih hl.2]
    refine insertBefore_congr _ _ a _ fun b hb => ?_
    have hab : a < b := hl.1 b ((perm_stableSort (ahead w) l).mem_iff.mp hb)
    have hba : ¬ b < a := not_lt.mpr hab.le
    simp [greater, ahead, hba]

/-- The places are the sort by score and then number. -/
theorem ranked_eq (w : Fin n → EReal) : ranked w = sortedFrom (ahead w) := by
  have h : sortPositions n (greater w) = sortPositions n (ahead w) :=
    stableSort_greater w _ (List.pairwise_lt_finRange n)
  funext k
  unfold ranked sortedFrom
  exact List.get_of_eq h _

/-- Different places hold different experts. -/
theorem ranked_injective (w : Fin n → EReal) : Function.Injective (ranked w) := sortedFrom_injective _

/-- Every expert has a place. -/
theorem ranked_surjective (w : Fin n → EReal) : Function.Surjective (ranked w) := sortedFrom_surjective _

/-- An expert at a later place has a lower score, or the same score and a higher number. -/
theorem ranked_ahead (w : Fin n → EReal) {r s : Fin n} (h : r < s) :
    w (ranked w s) < w (ranked w r) ∨ w (ranked w r) = w (ranked w s) ∧ ranked w r < ranked w s := by
  have hno : ahead w (ranked w s) (ranked w r) = false := by
    rw [ranked_eq]
    refine sortedFrom_noInversion (ahead w) (ahead w) (fun a b hab => ?_) (fun _ _ h => h) (fun a b c hab hbc => ?_) r s h
    · simp only [ahead, decide_eq_true_eq, decide_eq_false_iff_not, not_or, not_and, not_lt] at hab ⊢
      rcases hab with h1 | ⟨h1, h2⟩
      · exact ⟨h1.le, fun h3 => absurd h1 (by rw [h3]; exact lt_irrefl _)⟩
      · exact ⟨h1.ge, fun _ => h2.le⟩
    · simp only [ahead, decide_eq_false_iff_not, not_or, not_and, not_lt] at hab hbc ⊢
      refine ⟨hab.1.trans hbc.1, fun h3 => ?_⟩
      have h4 : w a = w b := le_antisymm hab.1 (hbc.1.trans h3.ge)
      exact (hbc.2 (h4.symm.trans h3)).trans (hab.2 h4)
  simp only [ahead, decide_eq_false_iff_not, not_or, not_and, not_lt] at hno
  rcases hno.1.lt_or_eq with h1 | h1
  · exact Or.inl h1
  · exact Or.inr ⟨h1.symm, lt_of_le_of_ne (hno.2 h1) fun h2 => h.ne (ranked_injective w h2)⟩

/-! ## One round -/

/-- What a round finds: the least key among the experts whose score is the greatest one left (64 stands for no expert). -/
def pick (key u : Fin n → EReal) : EReal :=
  Finset.univ.inf fun i => if u i = Finset.univ.sup u then key i else 64

/-- The scores after the round: −∞ over the expert whose key was found. -/
def strike (key u : Fin n → EReal) : Fin n → EReal := fun i => if key i = pick key u then ⊥ else u i

/-- The scores left before round `r`. -/
def left (key w : Fin n → EReal) (r : Nat) : Fin n → EReal := (strike key)^[r] w

/-- The scores left before the next round. -/
theorem left_succ (key w : Fin n → EReal) (r : Nat) : left key w (r + 1) = strike key (left key w r) :=
  Function.iterate_succ_apply' _ _ _

/-- If expert `s` attains the greatest score and no expert of a lower number does, a round finds the key of `s`. -/
theorem pick_eq (key u : Fin n → EReal) (hk : StrictMono key) (h64 : ∀ i, key i ≤ 64) (s : Fin n)
    (hmax : ∀ i, u i ≤ u s) (hmin : ∀ i, u i = u s → s ≤ i) : pick key u = key s := by
  have hsup : Finset.univ.sup u = u s :=
    le_antisymm (Finset.sup_le fun i _ => hmax i) (Finset.le_sup (Finset.mem_univ s))
  unfold pick
  rw [hsup]
  refine le_antisymm ((Finset.inf_le (Finset.mem_univ s)).trans (by simp)) (Finset.le_inf fun i _ => ?_)
  split
  · next h => exact hk.monotone (hmin i h)
  · exact h64 s

/-- Before round `r` the experts at the first `r` places are removed and no others, and the round finds the key of the
    expert at place `r`: for scores above −∞ and keys that grow with the expert's number and are at most 64. -/
theorem rounds (key w : Fin n → EReal) (hk : StrictMono key) (h64 : ∀ i, key i ≤ 64) (hw : ∀ i, ⊥ < w i) (r : Fin n) :
    (∀ s : Fin n, left key w r (ranked w s) = if s < r then ⊥ else w (ranked w s))
      ∧ pick key (left key w r) = key (ranked w r) := by
  have found : ∀ r : Fin n, (∀ s : Fin n, left key w r (ranked w s) = if s < r then ⊥ else w (ranked w s)) →
      pick key (left key w r) = key (ranked w r) := by
    intro r h
    have hr : left key w r (ranked w r) = w (ranked w r) := by rw [h r, if_neg (lt_irrefl r)]
    refine pick_eq key _ hk h64 (ranked w r) (fun i => ?_) (fun i hi => ?_)
    · obtain ⟨s, rfl⟩ := ranked_surjective w i
      rw [hr, h s]
      split
      · exact bot_le
      · next hs =>
        rcases (not_lt.mp hs).eq_or_lt with rfl | hrs
        · exact le_rfl
        · rcases ranked_ahead w hrs with h1 | h1
          · exact h1.le
          · exact h1.1.ge
    · obtain ⟨s, rfl⟩ := ranked_surjective w i
      rw [hr, h s] at hi
      split at hi
      · exact absurd (hw (ranked w r)) (by rw [← hi]; exact lt_irrefl _)
      · next hs =>
        rcases (not_lt.mp hs).eq_or_lt with rfl | hrs
        · exact le_rfl
        · rcases ranked_ahead w hrs with h1 | h1
          · exact absurd h1 (by rw [hi]; exact lt_irrefl _)
          · exact h1.2.le
  have removed : ∀ k : Nat, ∀ hkn : k < n, ∀ s : Fin n,
      left key w k (ranked w s) = if s < (⟨k, hkn⟩ : Fin n) then ⊥ else w (ranked w s) := by
    intro k
    induction k with
    | zero => intro hkn s; rw [if_neg (by simp [Fin.lt_def])]; rfl
    | succ k ih =>
      intro hkn s
      have hk' : k < n := Nat.lt_of_succ_lt hkn
      rw [left_succ]
      unfold strike
      rw [found ⟨k, hk'⟩ (ih hk')]
      have hkey : key (ranked w s) = key (ranked w ⟨k, hk'⟩) ↔ s = ⟨k, hk'⟩ :=
        ⟨fun h => ranked_injective w (hk.injective h), fun h => by rw [h]⟩
      rw [ih hk' s]
      by_cases hs : s = ⟨k, hk'⟩
      · rw [if_pos (hkey.mpr hs), if_pos (by rw [hs, Fin.lt_def]; exact Nat.lt_succ_self k)]
      · have hne : (s : Nat) ≠ k := fun h => hs (Fin.ext h)
        rw [if_neg (fun h => hs (hkey.mp h))]
        refine if_congr ?_ rfl rfl
        rw [Fin.lt_def, Fin.lt_def]
        show (s : Nat) < k ↔ (s : Nat) < k + 1
        omega
  exact ⟨removed r r.isLt, found r (removed r r.isLt)⟩

end Cert.Routing

end
-- ==== Proof.Numbers.lean ====
/-
  The arithmetic of one expert's key, exact. The key of expert `i` with gate value `s` is `i + s/2`; since `s` lies
  between 0 and 1 the key's floor gives the expert back and twice the rest gives the gate value back.
-/
module

public import Mathlib.Data.EReal.Inv
public import Idealize.ShloMosaic.PureOps.Ideal
public import Idealize.ShloMosaic.Lib.IdealHost

@[expose] public section

noncomputable section

namespace Cert.Routing

open Idealize.ShloMosaic

/-! ## The literals of the programs -/

/-- The word of 0.5 is one half. -/
theorem word_half : Ideal.ofBits .f32 0x3F000000#32 = ((1 / 2 : ℝ) : EReal) := by
  simp [Ideal.ofBits, Ideal.ieee, -EReal.coe_mul]; norm_num

/-- The word of 2.0 is two. -/
theorem word_two : Ideal.ofBits .f32 0x40000000#32 = ((2 : ℝ) : EReal) := by
  simp [Ideal.ofBits, Ideal.ieee, -EReal.coe_mul]; norm_num

/-- The word of 64.0 is sixty-four. -/
theorem word_sixtyfour : Ideal.ofBits .f32 0x42800000#32 = 64 := by
  have h : Ideal.ofBits .f32 0x42800000#32 = ((64 : ℝ) : EReal) := by
    simp [Ideal.ofBits, Ideal.ieee, -EReal.coe_mul]; norm_num
  rw [h]; rfl

/-- The word of negative infinity is −∞. -/
theorem word_bot : Ideal.ofBits .f32 0xFF800000#32 = (⊥ : EReal) := by
  simp [Ideal.ofBits, Ideal.ieee]

/-- The word of infinity is +∞. -/
theorem word_top : Ideal.ofBits .f32 0x7F800000#32 = (⊤ : EReal) := by
  simp [Ideal.ofBits, Ideal.ieee]

/-! ## The key -/

/-- A gate value is a real number between 0 and 1, whatever the logit. -/
theorem gate_real (x : EReal) : ∃ s : ℝ, 0 ≤ s ∧ s ≤ 1 ∧ Ideal.logistic x = (s : EReal) := by
  induction x with
  | bot => exact ⟨0, le_rfl, zero_le_one, Ideal.logistic_bot⟩
  | top => exact ⟨1, zero_le_one, le_rfl, Ideal.logistic_top⟩
  | coe r =>
    have h : 1 ≤ 1 + Real.exp (-r) := by linarith [Real.exp_pos (-r)]
    exact ⟨(1 + Real.exp (-r))⁻¹, inv_nonneg.mpr (zero_le_one.trans h), inv_le_one_of_one_le₀ h, Ideal.logistic_coe r⟩

/-- The key of expert `i` whose logit is `x`: its number plus half its gate value. -/
def keyOf (i : Nat) (x : EReal) : EReal := ((i : ℝ) : EReal) + ((1 / 2 : ℝ) : EReal) * Ideal.logistic x

/-- A key as a real number. -/
theorem keyOf_coe (i : Nat) {x : EReal} {s : ℝ} (h : Ideal.logistic x = (s : EReal)) :
    keyOf i x = ((i + s / 2 : ℝ) : EReal) := by
  rw [keyOf, h, ← EReal.coe_mul, ← EReal.coe_add]
  congr 1; ring

/-- Keys grow with the expert's number, whatever the logits. -/
theorem keyOf_strictMono {n : Nat} (L : Fin n → EReal) : StrictMono fun i : Fin n => keyOf i (L i) := by
  intro i j hij
  obtain ⟨s, _, hs1, hs⟩ := gate_real (L i)
  obtain ⟨t, ht0, _, ht⟩ := gate_real (L j)
  show keyOf i (L i) < keyOf j (L j)
  rw [keyOf_coe _ hs, keyOf_coe _ ht, EReal.coe_lt_coe_iff]
  have h : ((i : Nat) : ℝ) + 1 ≤ ((j : Nat) : ℝ) := by exact_mod_cast hij
  linarith

/-- Every key of the 64 experts is at most 64. -/
theorem keyOf_le (L : Fin 64 → EReal) (i : Fin 64) : keyOf i (L i) ≤ 64 := by
  obtain ⟨s, _, hs1, hs⟩ := gate_real (L i)
  rw [keyOf_coe _ hs, show (64 : EReal) = ((64 : ℝ) : EReal) from rfl, EReal.coe_le_coe_iff]
  have h : ((i : Nat) : ℝ) + 1 ≤ 64 := by exact_mod_cast i.isLt
  linarith

/-- The key's floor is the expert's number. -/
theorem floor_keyOf (i : Nat) (x : EReal) : Ideal.liftRound Int.floor (keyOf i x) = ((i : ℝ) : EReal) := by
  obtain ⟨s, hs0, hs1, hs⟩ := gate_real x
  rw [keyOf_coe _ hs, Ideal.liftRound_coe]
  have h : ⌊(i : ℝ) + s / 2⌋ = (i : ℤ) := by
    rw [Int.floor_eq_iff]; push_cast; constructor <;> linarith
  rw [h]; norm_cast

/-- Twice what the key has above the expert's number is the gate value. -/
theorem twice_keyOf (i : Nat) (x : EReal) :
    ((2 : ℝ) : EReal) * (keyOf i x - ((i : ℝ) : EReal)) = Ideal.logistic x := by
  obtain ⟨s, _, _, hs⟩ := gate_real x
  rw [keyOf_coe _ hs, hs, ← EReal.coe_sub, ← EReal.coe_mul]
  congr 1; ring

/-- The expert's number as a real, turned into an integer word, is the word of the number. -/
theorem word_of_number (i : Nat) (hi : i < 64) : Ideal.fptosi 32 ((i : ℝ) : EReal) = BitVec.ofNat 32 i := by
  have h : Ideal.toIntClamped (-(2 ^ (32 - 1) : Nat)) ((2 ^ (32 - 1) : Nat) - 1) ((i : ℝ) : EReal) = (i : ℤ) := by
    show max _ (min _ (if (0 : ℝ) ≤ (i : ℝ) then ⌊(i : ℝ)⌋ else ⌈(i : ℝ)⌉)) = _
    rw [if_pos (Nat.cast_nonneg i), Int.floor_natCast]
    norm_num
    omega
  rw [Ideal.fptosi, h]
  exact BitVec.ofInt_natCast 32 i

/-- The word of an expert's number, read as a real. -/
theorem number_of_word (i : Nat) (hi : i < 64) : (((BitVec.ofNat 32 i).toInt : ℝ) : EReal) = ((i : ℝ) : EReal) := by
  have h : (BitVec.ofNat 32 i).toInt = (i : ℤ) := by
    rw [BitVec.toInt_ofNat']
    rw [Int.bmod_eq_of_le] <;> omega
  rw [h]; norm_cast

end Cert.Routing

end
-- ==== Proof.Gate.lean ====
/-
  One token's results as mathematics: of the 64 experts the eight with the greatest scores, in order, and their gate
  values divided by the sum of the eight; and that the search in rounds over the keys gives the same.
-/
module

public import proofs.«01_k».proof.Proof.Rounds
public import proofs.«01_k».proof.Proof.Numbers

@[expose] public section

noncomputable section

namespace Cert.Routing

open Idealize.ShloMosaic

/-- The expert at place `r` of the first eight. -/
def chosen (w : Fin 64 → EReal) (r : Fin 8) : Fin 64 := ranked w (r.castLE (by decide))

/-- The weight of the expert at place `r`: its gate value over the sum of the eight gate values. -/
def weight (L w : Fin 64 → EReal) (r : Fin 8) : EReal :=
  Ideal.div (Ideal.logistic (L (chosen w r))) (∑ s : Fin 8, Ideal.logistic (L (chosen w s)))

/-- The keys of the 64 experts with logits `L`. -/
def keys (L : Fin 64 → EReal) (i : Fin 64) : EReal := keyOf i (L i)

/-- What round `r` finds is the key of the expert at place `r`, where every score is above −∞. -/
theorem pick_left (L w : Fin 64 → EReal) (hw : ∀ i, ⊥ < w i) (r : Fin 8) :
    pick (keys L) (left (keys L) w r) = keyOf (chosen w r) (L (chosen w r)) :=
  (rounds (keys L) w (keyOf_strictMono L) (keyOf_le L) hw (r.castLE (by decide))).2

end Cert.Routing

end
-- ==== Proof.Block.lean ====
/-
  What one block computes. From a block of 4096 tokens, the gate matrix and the bias column the body leaves, at place `r`
  of token `t`, the weight and the number of the expert at that place (`Cert.Routing`), where the token's scores are all
  above −∞.
-/
module

public import proofs.«01_k».proof.Proof.Gen.KernelIdeal.Frame
public import proofs.«01_k».proof.Proof.Gate
public import Idealize.ShloMosaic.Lib.Pipeline.ValueKit
public import Idealize.ShloMosaic.Lib.Pointwise

@[expose] public section

set_option maxRecDepth 16384

noncomputable section

namespace Cert.KernelIdeal.Block

open Cert.KernelIdeal Cert.KernelIdeal.Gen Cert.Routing Idealize.ShloMosaic

/-! ## One round on the block -/

/-- The keys a round finds, one per token: of the experts with the greatest score left the least key. -/
def found (key u : FVec Ideal S64x4096 .f32) : FVec Ideal S1x4096 .f32 :=
  shapeCast S1x4096
    (multiReduction .minimumf [0] S4096
      (select
        (cmpf .oeq u (broadcastTo S64x4096
          (shapeCast S1x4096 (multiReduction .maximumf [0] S4096 u 0xFF800000#32 reduces_S64x4096_S4096 (.inl rfl) rfl)
            shapeCasts_S4096_S1x4096) broadcasts_S1x4096_S64x4096))
        key (broadcast S64x4096 (Scalar.ofBits .f32 0x42800000#32)))
      0x7F800000#32 reduces_S64x4096_S4096 (.inl rfl) rfl)
    shapeCasts_S4096_S1x4096

/-- The scores left after the round. -/
def struck (key u : FVec Ideal S64x4096 .f32) : FVec Ideal S64x4096 .f32 :=
  select (cmpf .oeq key (broadcastTo S64x4096 (found key u) broadcasts_S1x4096_S64x4096))
    (broadcast S64x4096 (Scalar.ofBits .f32 0xFF800000#32)) u

/-- The entries of token `t`, one per expert. -/
abbrev col (u : FVec Ideal S64x4096 .f32) (t : Fin 4096) : Fin 64 → EReal := fun i => u (ix2 i t)

/-- A round on the block is a round on each token's column: the keys found, -/
theorem found_apply (key u : FVec Ideal S64x4096 .f32) (t : Fin 4096) :
    found key u (ix2 0 t) = pick (col key t) (col u t) := by
  pointwise [found]
  rw [word_bot, word_top, word_sixtyfour]
  rfl

/-- and the scores left. -/
theorem struck_apply (key u : FVec Ideal S64x4096 .f32) (t : Fin 4096) :
    col (struck key u) t = strike (col key t) (col u t) := by
  funext i
  pointwise [struck]
  rw [word_bot, found_apply]
  rfl

/-- The scores left on the block before round `r`. -/
def leftBlock (key u : FVec Ideal S64x4096 .f32) : Nat → FVec Ideal S64x4096 .f32
  | 0 => u
  | r + 1 => struck key (leftBlock key u r)

/-- Rounds on the block are rounds on each token's column. -/
theorem leftBlock_apply (key u : FVec Ideal S64x4096 .f32) (t : Fin 4096) (r : Nat) :
    col (leftBlock key u r) t = left (col key t) (col u t) r := by
  induction r with
  | zero => rfl
  | succ r ih =>
    rw [left_succ, ← ih]
    exact struck_apply key _ t

/-! ## The body's values -/

variable (x0 : Vec Ideal S4096x768 .f32) (x1 : Vec Ideal S64x768 .f32) (x2 : Vec Ideal S64x1 .f32)

/-- The logit of expert `e` for token `t` of the block. -/
def logit (t : Fin 4096) (e : Fin 64) : EReal := ∑ k : Fin 768, x1 (ix2 e k) * x0 (ix2 t k)

/-- The score of expert `e` for token `t` of the block: the logit plus the expert's bias. -/
def score (t : Fin 4096) (e : Fin 64) : EReal := logit x0 x1 t e + x2 (ix2 e 0)

/-- The body's keys, one token's column of them. -/
theorem key_apply (t : Fin 4096) : col (k0_pay7 (F := Ideal) x0 x1) t = keys (logit x0 x1 t) := by
  funext i
  pointwise [k0_pay7, k0_pay5]
  rw [word_half, show FloatOps.sitofp (F := Ideal) FTy.f32 (BitVec.ofNat 32 ↑i) = (((BitVec.ofNat 32 i).toInt : ℝ) : EReal) from rfl,
    number_of_word i i.isLt]
  rfl

/-- The body's scores, one token's column of them. -/
theorem score_apply (t : Fin 4096) : col (k0_pay6 (F := Ideal) x0 x1 x2) t = score x0 x1 x2 t := by
  funext i
  pointwise [k0_pay6, k0_pay5]
  rfl

/-- The keys that the eight rounds find, stacked by place. -/
abbrev allFound : FVec Ideal S8x4096 .f32 :=
  k0_pay1 (k0_pay22 x0 x1 x2) (k0_pay23 x0 x1 x2) (k0_pay24 x0 x1 x2) (k0_pay27 x0 x1 x2) (k0_pay28 x0 x1 x2)
    (k0_pay29 x0 x1 x2) (k0_pay30 x0 x1 x2) (k0_pay31 x0 x1 x2) (k0_pay32 x0 x1 x2)

/-- The keys the body uses and the scores it leaves before round `r`. -/
abbrev bodyLeft (r : Nat) : FVec Ideal S64x4096 .f32 :=
  leftBlock (k0_pay7 (View.ld x0 r0_0) (View.ld x1 r0_1)) (k0_pay6 (View.ld x0 r0_0) (View.ld x1 r0_1) (View.ld x2 r0_2)) r

/-- What round `r` of the body finds. -/
abbrev bodyFound (r : Nat) : FVec Ideal S1x4096 .f32 :=
  found (k0_pay7 (View.ld x0 r0_0) (View.ld x1 r0_1)) (bodyLeft x0 x1 x2 r)

/-- The stacked keys are those of the eight rounds, in order. -/
theorem allFound_eq : allFound x0 x1 x2 = concatenate S8x4096 0
    [⟨S1x4096, bodyFound x0 x1 x2 0⟩, ⟨S1x4096, bodyFound x0 x1 x2 1⟩, ⟨S1x4096, bodyFound x0 x1 x2 2⟩,
      ⟨S1x4096, bodyFound x0 x1 x2 3⟩, ⟨S1x4096, bodyFound x0 x1 x2 4⟩, ⟨S1x4096, bodyFound x0 x1 x2 5⟩,
      ⟨S1x4096, bodyFound x0 x1 x2 6⟩, ⟨S1x4096, bodyFound x0 x1 x2 7⟩]
    concatenates_S1x4096_S1x4096_S1x4096_S1x4096_S1x4096_S1x4096_S1x4096_S1x4096_S8x4096_d0 := rfl

/-- At place `r` of a token stands the key that round `r` picks in the token's column. -/
theorem allFound_apply (r : Fin 8) (t : Fin 4096) :
    allFound x0 x1 x2 (ix2 r t) = pick (keys (logit x0 x1 t)) (left (keys (logit x0 x1 t)) (score x0 x1 x2 t) r) := by
  rw [allFound_eq]
  have h : ∀ q : Nat, bodyFound x0 x1 x2 q (ix2 0 t)
      = pick (keys (logit x0 x1 t)) (left (keys (logit x0 x1 t)) (score x0 x1 x2 t) q) := by
    intro q
    have e0 : View.ld x0 r0_0 = x0 := View.ld_unit_zero (by decide) ..
    have e1 : View.ld x1 r0_1 = x1 := View.ld_unit_zero (by decide) ..
    have e2 : View.ld x2 r0_2 = x2 := View.ld_unit_zero (by decide) ..
    rw [bodyFound, bodyLeft, found_apply, leftBlock_apply, e0, e1, e2, key_apply, score_apply]
  pointwise
  fin_vals r with hr
  all_goals simp only [hr, Nat.reduceSub, Nat.reduceLT, ↓reduceDIte]
  all_goals exact h _

/-- Where the token's scores are above −∞: the body's keys by place are the keys of the chosen experts, -/
theorem allFound_chosen (t : Fin 4096) (hw : ∀ e, ⊥ < score x0 x1 x2 t e) (r : Fin 8) :
    allFound x0 x1 x2 (ix2 r t) = keyOf (chosen (score x0 x1 x2 t) r) (logit x0 x1 t (chosen (score x0 x1 x2 t) r)) := by
  rw [allFound_apply]
  exact pick_left _ _ hw r

/-- the body's weights are the chosen experts' weights, -/
theorem weights_apply (r : Fin 8) (t : Fin 4096) (hw : ∀ e, ⊥ < score x0 x1 x2 t e) :
    out0_3 (F := Ideal) x0 x1 x2 (ix2 r t) = weight (logit x0 x1 t) (score x0 x1 x2 t) r := by
  unfold out0_3
  frame_out
  pointwise [k0_pay3, k0_pay2]
  have h := allFound_chosen x0 x1 x2 t hw
  unfold allFound at h
  simp only [h, word_two, floor_keyOf, twice_keyOf]
  rfl

/-- and its numbers the chosen experts' numbers. -/
theorem numbers_apply (r : Fin 8) (t : Fin 4096) (hw : ∀ e, ⊥ < score x0 x1 x2 t e) :
    out0_4 (F := Ideal) x0 x1 x2 (ix2 r t) = BitVec.ofNat 32 (chosen (score x0 x1 x2 t) r) := by
  unfold out0_4
  frame_out
  pointwise [k0_pay4, k0_pay2]
  have h := allFound_chosen x0 x1 x2 t hw
  unfold allFound at h
  rw [h, floor_keyOf]
  exact word_of_number _ (Fin.isLt _)

end Cert.KernelIdeal.Block

end
-- ==== Proof.Layer.lean ====
/-
  The whole layer as mathematics: a token's logits and scores from the arrays of the tokens, the gate matrix and the bias,
  the two result arrays, and that finite arguments have scores above −∞.
-/
module

public import proofs.«01_k».proof.Proof.Gate
public import Idealize.ShloMosaic.Lib.Pointwise

@[expose] public section

noncomputable section

namespace Cert.Routing

open Idealize.ShloMosaic

/-- The shape of the tokens. -/
abbrev Tokens : Shape := ⟨2, ![32768, 768]⟩
/-- The shape of the gate matrix. -/
abbrev Matrix : Shape := ⟨2, ![64, 768]⟩
/-- The shape of the bias. -/
abbrev Bias : Shape := ⟨1, ![64]⟩
/-- The shape of both results: eight places per token. -/
abbrev Places : Shape := ⟨2, ![32768, 8]⟩

variable (x : Tokens.Idx → EReal) (g : Matrix.Idx → EReal) (b : Bias.Idx → EReal)

/-- The logit of expert `e` for token `t`. -/
def logitOf (t : Fin 32768) (e : Fin 64) : EReal := ∑ k : Fin 768, x (ix2 t k) * g (ix2 e k)

/-- The score of expert `e` for token `t`: its logit and its bias. -/
def scoreOf (t : Fin 32768) (e : Fin 64) : EReal := logitOf x g t e + b (ix1 e)

/-- The weights of every token's chosen experts. -/
def weightsOf : Places.Idx → EReal := fun j => weight (logitOf x g (j 0)) (scoreOf x g b (j 0)) (j 1)

/-- The numbers of every token's chosen experts. -/
def numbersOf : Places.Idx → BitVec 32 := fun j => BitVec.ofNat 32 (chosen (scoreOf x g b (j 0)) (j 1))

/-- Every entry of an array is a real number. -/
def Finite {s : Shape} (a : s.Idx → EReal) : Prop := ∀ i, ∃ r : ℝ, a i = r

/-- A sum of real numbers is the real sum. -/
theorem coe_sum {n : Nat} (f : Fin n → ℝ) : ∑ k, ((f k : ℝ) : EReal) = ((∑ k, f k : ℝ) : EReal) :=
  (map_sum (⟨⟨(fun r : ℝ => (r : EReal)), EReal.coe_zero⟩, EReal.coe_add⟩ : ℝ →+ EReal) f Finset.univ).symm

/-- Of finite arguments every score is above −∞. -/
theorem bot_lt_scoreOf (hx : Finite x) (hg : Finite g) (hb : Finite b) (t : Fin 32768) (e : Fin 64) :
    ⊥ < scoreOf x g b t e := by
  choose X hX using hx
  choose G hG using hg
  choose B hB using hb
  have h : scoreOf x g b t e = ((∑ k : Fin 768, X (ix2 t k) * G (ix2 e k) + B (ix1 e) : ℝ) : EReal) := by
    simp only [scoreOf, logitOf, hX, hG, hB, ← EReal.coe_mul, coe_sum, ← EReal.coe_add]
  rw [h]
  exact EReal.bot_lt_coe _

end Cert.Routing

end
-- ==== Proof.Array.lean ====
/-
  What the kernel's arrays hold: after every block is written, the two transposed result arrays, and after the two
  transposes the results, in terms of the arguments.
-/
module

public import proofs.«01_k».proof.Proof.Block
public import proofs.«01_k».proof.Proof.Layer
public import Idealize.ShloMosaic.Lib.Claim

@[expose] public section

set_option maxRecDepth 16384

noncomputable section

namespace Cert.KernelIdeal.Array

open Cert.KernelIdeal Cert.KernelIdeal.Gen Cert.KernelIdeal.Block Cert.Routing Idealize.ShloMosaic Idealize.ShloMosaic.TcCoe
  Idealize.SL.Sem Idealize.ShloMosaic.Pipeline

variable (m : (ℓ : Loc nD τ sig) → Buf (Elt Ideal) ℓ) (c : Dev nD)

/-- The tokens as the program finds them. -/
abbrev tokens : Tokens.Idx → EReal := m ((c.tc : Thread nD τ).loc main_arg0)
/-- The gate matrix as the program finds it. -/
abbrev matrix : Matrix.Idx → EReal := m ((c.tc : Thread nD τ).loc main_arg1)
/-- The bias as the program finds it. -/
abbrev bias : Bias.Idx → EReal := m ((c.tc : Thread nD τ).loc main_arg2)

/-- Where each window's block lies: block `t` of the tokens and of the results at tokens `4096 t`, the rest whole. -/
theorem idx : ∀ t : Fin cfg0.N, win0_0.index t = ![t.val, 0] ∧ win0_1.index t = ![0, 0] ∧ win0_2.index t = ![0, 0]
    ∧ win0_3.index t = ![0, t.val] ∧ win0_4.index t = ![0, t.val] :=
  (by decide +kernel : ∀ t : Fin grid0.N, _)

/-- Token `y` of block `t` among all tokens. -/
def token (t : Fin cfg0.N) (y : Fin 4096) : Fin 32768 :=
  ⟨t.val * 4096 + y.val, by have ht : t.val < 8 := t.isLt; have := y.isLt; omega⟩

/-- The bias column that the program makes for the kernel holds the bias. -/
theorem bias_column (i : S64x1.Idx) : V m c main_v0 i = bias m c (ix1 (i 0)) := by
  have h : V m c main_v0 = shapeCast S64x1 (m ((c.tc : Thread nD τ).loc main_arg2)) shapeCasts_S64_S64x1 := rfl
  rw [h]
  idx_vars i
  pointwise

/-- The logits of a block are the layer's, -/
theorem logit_block (t : Fin cfg0.N) (y : Fin 4096) :
    logit (iblk m c 0 t) (iblk m c 1 t) y = logitOf (tokens m c) (matrix m c) (token t y) := by
  funext e
  unfold logit logitOf
  refine Finset.sum_congr rfl fun k _ => ?_
  rw [mul_comm]
  congr 1
  · obtain ⟨h0, -⟩ := idx t
    blk_ext! [iblk, V, h0, token]
  · obtain ⟨-, h1, -⟩ := idx t
    blk_ext! [iblk, V, h1]

/-- and so are its scores. -/
theorem score_block (t : Fin cfg0.N) (y : Fin 4096) :
    score (iblk m c 0 t) (iblk m c 1 t) (iblk m c 2 t) y = scoreOf (tokens m c) (matrix m c) (bias m c) (token t y) := by
  funext e
  unfold score scoreOf
  rw [logit_block]
  congr 1
  obtain ⟨-, -, h2, -⟩ := idx t
  refine (bias_column m c _).trans ?_
  blk_ext [h2]

/-- The transposed weights after every block is written. -/
theorem weights_final (hw : ∀ t e, ⊥ < scoreOf (tokens m c) (matrix m c) (bias m c) t e) :
     (dats m 0 c).arrAt 3 cfg0.N
    = fun j => weight (logitOf (tokens m c) (matrix m c) (j 1)) (scoreOf (tokens m c) (matrix m c) (bias m c) (j 1)) (j 0) := by
  refine (dats m 0 c).arrAt_eq_of_covers 3 _ (by decide +kernel) fun t hf y => ?_
  blk_simp
  rw [after0_3]
  obtain ⟨r, q, rfl⟩ : ∃ (r : Fin 8) (q : Fin 4096), y = (ix2 r q : S8x4096.Idx) := ⟨y 0, y 1, eq_ix2 y⟩
  obtain ⟨-, -, -, h3, -⟩ := idx t
  have he : (win0_3.blk t).view.emb (ix2 r q : S8x4096.Idx) = (ix2 r (token t q) : S8x32768.Idx) := by
    blk_ext [h3, token]
  rw [he]
  refine (weights_apply _ _ _ r q fun e => ?_).trans ?_
  · rw [score_block]; exact hw _ _
  · rw [logit_block, score_block]; rfl

/-- The transposed numbers after every block is written. -/
theorem numbers_final (hw : ∀ t e, ⊥ < scoreOf (tokens m c) (matrix m c) (bias m c) t e) :
     (dats m 0 c).arrAt 4 cfg0.N
    = fun j => BitVec.ofNat 32 (chosen (scoreOf (tokens m c) (matrix m c) (bias m c) (j 1)) (j 0)) := by
  refine (dats m 0 c).arrAt_eq_of_covers 4 _ (by decide +kernel) fun t hf y => ?_
  blk_simp
  rw [after0_4]
  obtain ⟨r, q, rfl⟩ : ∃ (r : Fin 8) (q : Fin 4096), y = (ix2 r q : S8x4096.Idx) := ⟨y 0, y 1, eq_ix2 y⟩
  obtain ⟨-, -, -, -, h4⟩ := idx t
  have he : (win0_4.blk t).view.emb (ix2 r q : S8x4096.Idx) = (ix2 r (token t q) : S8x32768.Idx) := by
    blk_ext [h4, token]
  rw [he]
  refine (numbers_apply _ _ _ r q fun e => ?_).trans ?_
  · rw [score_block]; exact hw _ _
  · rw [score_block]; rfl

/-- The weights transposed are the layer's. -/
theorem weights_result (hw : ∀ t e, ⊥ < scoreOf (tokens m c) (matrix m c) (bias m c) t e) :
    afterTail₀ cfgs (dats m) 0 (V0 m) [hostOps1] c main_v2 = weightsOf (tokens m c) (matrix m c) (bias m c) := by
  have h : afterTail₀ cfgs (dats m) 0 (V0 m) [hostOps1] c main_v2
      = transpose S32768x8 [1, 0] ((dats m 0 c).arrAt 3 cfg0.N) transposes_S8x32768_S32768x8_1_0 := by
    have e := withArrays_arr spec0 (by decide) c (V0 m c) (fun w => (dats m 0 c).arrAt w (cfgs 0).N) 3
    unfold afterTail₀
    generalize withArrays _ c (V0 m c) (fun w => (dats m 0 c).arrAt w (cfgs 0).N) = W at e ⊢
    after_results
    exact congrArg (transpose S32768x8 [1, 0] · transposes_S8x32768_S32768x8_1_0) e
  rw [h, weights_final m c hw]
  funext j
  idx_vars j
  pointwise
  rfl

/-- The numbers transposed are the layer's. -/
theorem numbers_result (hw : ∀ t e, ⊥ < scoreOf (tokens m c) (matrix m c) (bias m c) t e) :
    afterTail₀ cfgs (dats m) 0 (V0 m) [hostOps1] c main_v3 = numbersOf (tokens m c) (matrix m c) (bias m c) := by
  have h : afterTail₀ cfgs (dats m) 0 (V0 m) [hostOps1] c main_v3
      = transpose S32768x8 [1, 0] ((dats m 0 c).arrAt 4 cfg0.N) transposes_S8x32768_S32768x8_1_0 := by
    have e := withArrays_arr spec0 (by decide) c (V0 m c) (fun w => (dats m 0 c).arrAt w (cfgs 0).N) 4
    unfold afterTail₀
    generalize withArrays _ c (V0 m c) (fun w => (dats m 0 c).arrAt w (cfgs 0).N) = W at e ⊢
    after_results
    exact congrArg (transpose S32768x8 [1, 0] · transposes_S8x32768_S32768x8_1_0) e
  rw [h, numbers_final m c hw]
  funext j
  idx_vars j
  pointwise
  rfl

/-- From any start whose scores are above −∞ the program ends with the layer's weights and numbers as its results and its
    arguments unchanged. -/
theorem run (ρ : Dev nD → PrngReg) (hw : ∀ c t e, ⊥ < scoreOf (tokens m c) (matrix m c) (bias m c) t e) :
    θ_run defs (onTc (τ := τ) (main (F := Ideal))) ⟨m, fun _ => 0, ρ⟩ (fun r => ∀ c : Dev nD,
      r.2.mem ((c.tc : Thread nD τ).loc main_v2) = weightsOf (tokens m c) (matrix m c) (bias m c)
      ∧ r.2.mem ((c.tc : Thread nD τ).loc main_v3) = numbersOf (tokens m c) (matrix m c) (bias m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  run_from run_main m ρ
  · exact weights_result m c (hw c)
  · exact numbers_result m c (hw c)
  · exact W_main_arg2 m (dats m) c

end Cert.KernelIdeal.Array

end
-- ==== Proof.Finite.lean ====
/-
  The precondition read back: where it holds, every entry of the three arguments is a real number.
-/
module

public import proofs.«01_k».proof.Pre_finite_arguments
public import proofs.«01_k».proof.Proof.Gen.Pre_finite_arguments
public import proofs.«01_k».proof.Proof.Layer
public import Idealize.ShloMosaic.Lib.ReduceAll

@[expose] public section

set_option maxRecDepth 16384

noncomputable section

namespace Cert.Pre_finite_arguments

open Cert.Routing Idealize.ShloMosaic

/-- A number whose absolute value is below +∞ is real. -/
theorem real_of_abs_lt {a : EReal} (h : Ideal.cmp .olt (max a (-a)) ⊤ = 1#1) : ∃ r : ℝ, a = r := by
  have h' : max a (-a) < ⊤ := by
    by_contra hn
    rw [Ideal.cmp] at h
    simp [hn] at h
  induction a with
  | bot => simp at h'
  | top => simp at h'
  | coe r => exact ⟨r, rfl⟩

/-- Where the precondition holds, the three arguments are finite. -/
theorem finite (x : FVec Ideal S32768x768 .f32) (g : FVec Ideal S64x768 .f32) (b : FVec Ideal S64 .f32)
    (h : fn x g b = fun _ => 1#1) : Finite (s := Tokens) x ∧ Finite (s := Matrix) g ∧ Finite (s := Bias) b := by
  have h0 := congrFun h (Shape.Idx.first Gen.h_S_)
  dsimp only [fn] at h0
  obtain ⟨h1, hb⟩ := IntOp.andi_eq_one.1 h0
  obtain ⟨hx, hg⟩ := IntOp.andi_eq_one.1 h1
  haveI : Subsingleton S_.Idx := ⟨fun i j => funext fun a => a.elim0⟩
  refine ⟨fun i => real_of_abs_lt ?_, fun i => real_of_abs_lt ?_, fun i => real_of_abs_lt ?_⟩
  · have := Host.reduce_andi_all _ _ _ _ _ hx i
    pointwise at this
    rwa [word_top] at this
  · have := Host.reduce_andi_all _ _ _ _ _ hg i
    pointwise at this
    rwa [word_top] at this
  · have := Host.reduce_andi_all _ _ _ _ _ hb i
    pointwise at this
    rwa [word_top] at this

end Cert.Pre_finite_arguments

end
-- ==== Proof.Reference.lean ====
/-
  What the reference computes: its weights and its numbers are the layer's.
-/
module

public import proofs.«01_k».proof.Proof.Gen.ReferenceIdeal.Read
public import proofs.«01_k».proof.Proof.Layer
public import Idealize.ShloMosaic.Lib.ReduceAll

@[expose] public section

set_option maxRecDepth 16384

noncomputable section

namespace Cert.ReferenceIdeal.Layer

open Cert.ReferenceIdeal Cert.ReferenceIdeal.Gen Cert.ReferenceIdeal.Read Cert.Routing Idealize.ShloMosaic
  Idealize.ShloMosaic.TcCoe Idealize.SL.Sem

variable (x : Vec Ideal S32768x768 .f32) (g : Vec Ideal S64x768 .f32) (b : Vec Ideal S64 .f32)

/-- The product of the tokens and the transposed gate matrix holds the logits, -/
theorem logits_apply (t : Fin 32768) (e : Fin 64) : val_main_v1 (F := Ideal) x g (ix2 t e) = logitOf x g t e := by
  pointwise [val_main_v1, val_main_v0]
  rfl

/-- the gates their logistic values, -/
theorem gates_apply (t : Fin 32768) (e : Fin 64) :
    val_main_v7 (F := Ideal) x g (ix2 t e) = Ideal.logistic (logitOf x g t e) := by
  pointwise [val_main_v7, val_main_v6, val_main_v5, val_main_v4, val_main_v3, val_main_v2, val_main_cst, val_main_cst_0]
  rw [logits_apply]
  rfl

/-- and the sum with the bias the scores. -/
theorem scores_apply (t : Fin 32768) (e : Fin 64) : val_main_v10 (F := Ideal) x g b (ix2 t e) = scoreOf x g b t e := by
  pointwise [val_main_v10, val_main_v9, val_main_v8]
  rw [logits_apply]
  rfl

/-- The numbers the sort gives are those of the chosen experts. -/
theorem numbers_apply (t : Fin 32768) (r : Fin 8) :
    val_main_indices (F := Ideal) x g b (ix2 t r) = BitVec.ofNat 32 (chosen (scoreOf x g b t) r) := by
  have h : (fun k k' : Fin 64 => Ideal.cmpTotal .gt (val_main_v10 (F := Ideal) x g b (ix2 t k))
      (val_main_v10 (F := Ideal) x g b (ix2 t k')) == 1#1) = greater (scoreOf x g b t) := by
    funext k k'
    rw [scores_apply, scores_apply]
    show (BitVec.ofBool (decide (scoreOf x g b t k' < scoreOf x g b t k)) == 1#1) = _
    unfold greater
    cases decide (scoreOf x g b t k' < scoreOf x g b t k) <;> rfl
  have hal : ∀ k : Fin 64, Shape.Idx.along (s := S32768x64) (ix2 t (r.castLE (by decide : 8 ≤ 64))) 1 k = ix2 t k := by
    intro k
    funext a
    match a with
    | ⟨0, _⟩ => rfl
    | ⟨1, _⟩ => rfl
  unfold val_main_indices Host.topK
  pointwise
  unfold Host.sort2
  rw [dif_pos (by decide)]
  show BitVec.ofNat 32 (Shape.Idx.along (s := S32768x64) (ix2 t (r.castLE (by decide : 8 ≤ 64))) 1
    (sortedFrom (fun k k' : Fin 64 => Ideal.cmpTotal .gt
      (val_main_v10 (F := Ideal) x g b (Shape.Idx.along (s := S32768x64) (ix2 t (r.castLE (by decide : 8 ≤ 64))) 1 k))
      (val_main_v10 (F := Ideal) x g b (Shape.Idx.along (s := S32768x64) (ix2 t (r.castLE (by decide : 8 ≤ 64))) 1 k')) == 1#1)
      (r.castLE (by decide : 8 ≤ 64))) 1).val = _
  simp only [hal]
  rw [h, chosen, ranked]
  have key : ∀ k : Fin 64, (Shape.Idx.along (s := S32768x64) (ix2 t (r.castLE (by decide : 8 ≤ 64))) 1 k 1).val = k.val := by
    intro k
    rw [hal]
    rfl
  exact congrArg (BitVec.ofNat 32) (key _)

/-- An expert's number is not negative, so it is not wrapped, -/
theorem unwrapped (e : Fin 64) : Scalar.select (IntOp.cmpi .slt (BitVec.ofNat 32 e.val) 0#32)
    (IntOp.addi (BitVec.ofNat 32 e.val) 64#32) (BitVec.ofNat 32 e.val) = BitVec.ofNat 32 e.val := by
  revert e
  decide +kernel

/-- it is within the bounds of the 64 experts, -/
theorem in_bounds (e : Fin 64) : IntOp.andi (IntOp.cmpi .sge (BitVec.ofNat 32 e.val) 0#32)
    (IntOp.cmpi .sle (BitVec.ofNat 32 e.val) 63#32) = 1#1 := by
  revert e
  decide +kernel

/-- and, read as a number and held to the bounds, it is itself. -/
theorem unclamped (e : Fin 64) : min (BitVec.ofNat 32 e.val).toInt.toNat 63 = e.val := by
  revert e
  decide +kernel

/-- The number read as a position: an expert's number is its own, never wrapped. -/
theorem position_apply (t : Fin 32768) (r : Fin 8) :
    val_main_call0_v5 (F := Ideal) x g b (ix3 t r 0) = BitVec.ofNat 32 (chosen (scoreOf x g b t) r) := by
  pointwise [val_main_call0_v5, val_main_call0_v4, val_main_call0_v3, val_main_call0_v2, val_main_call0_v1, val_main_call0_v0,
    val_main_call0_c, val_main_call0_c_0]
  rw [numbers_apply]
  exact unwrapped _

/-- Every position is an expert's, so the check of the bounds passes everywhere. -/
theorem bounds_apply (j : S32768x8.Idx) : val_main_call0_v12 (F := Ideal) x g b j = 1#1 := by
  refine Host.reduce_andi_one _ _ _ _ j rfl fun i => ?_
  idx_vars i
  pointwise [val_main_call0_v11, val_main_call0_v10, val_main_call0_v9, val_main_call0_v8, val_main_call0_v7,
    val_main_call0_v6, val_main_call0_c_1, val_main_call0_c_2]
  obtain rfl : i2 = 0 := Subsingleton.elim _ _
  rw [position_apply]
  exact in_bounds _

/-- The gathered values are the gates of the chosen experts. -/
theorem gathered_apply (t : Fin 32768) (r : Fin 8) :
    val_main_call0_v13 (F := Ideal) x g b (ix2 t r) = Ideal.logistic (logitOf x g t (chosen (scoreOf x g b t) r)) := by
  rw [← gates_apply]
  unfold val_main_call0_v13 Host.gather
  congr 1
  funext a
  apply Fin.ext
  match a with
  | ⟨0, _⟩ =>
    show GatherDims.start _ _ _ 0 + GatherDims.batchCoord _ _ 0 + GatherDims.offCoord _ _ 0 = t.val
    rw [GatherDims.offCoord_eq_zero _ _ _ (by decide +kernel), GatherDims.start, dif_neg (by decide +kernel),
      GatherDims.batchCoord, dif_pos (by decide +kernel)]
    show 0 + t.val + 0 = t.val
    rw [Nat.zero_add, Nat.add_zero]
  | ⟨1, _⟩ =>
    show GatherDims.start _ _ _ 1 + GatherDims.batchCoord _ _ 1 + GatherDims.offCoord _ _ 1 = (chosen (scoreOf x g b t) r).val
    rw [GatherDims.offCoord_eq_zero _ _ _ (by decide +kernel), GatherDims.start, dif_pos (by decide +kernel),
      GatherDims.batchCoord_eq_zero _ _ _ (by decide +kernel)]
    have hs : ∀ q, GatherDims.siIdx gather_S32768x64_S32768x8x1_S32768x8_n_1_0_0_1_2_11 (ix2 t r) q = ix3 t r 0 := by
      intro q
      funext a
      match a with
      | ⟨0, _⟩ => rfl
      | ⟨1, _⟩ => rfl
      | ⟨2, _⟩ => exact Subsingleton.elim (α := Fin 1) _ _
    have hb : S32768x64.size 1 - GatherDims.sliceSizes gather_S32768x64_S32768x8x1_S32768x8_n_1_0_0_1_2_11 1 = 63 := by
      decide +kernel
    rw [hs, position_apply, hb, Nat.add_zero]
    exact unclamped _

/-- What is taken along the axis: the gates of the chosen experts. -/
theorem taken_apply (t : Fin 32768) (r : Fin 8) :
    val_main_v11 (F := Ideal) x g b (ix2 t r) = Ideal.logistic (logitOf x g t (chosen (scoreOf x g b t) r)) := by
  rw [val_main_v11_apply, bounds_apply, gathered_apply]
  rfl

/-- The reference's weights are the layer's, -/
theorem weights : val_main_v15 (F := Ideal) x g b = weightsOf x g b := by
  funext j
  idx_vars j
  pointwise [val_main_v15, val_main_v14, val_main_v13, val_main_v12, val_main_cst_1]
  simp only [taken_apply]
  rfl

/-- and its numbers are. -/
theorem numbers : val_main_indices (F := Ideal) x g b = numbersOf x g b := by
  funext j
  idx_vars j
  exact numbers_apply x g b _ _

/-- From any start the reference ends with the layer's weights and numbers as its results and its arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v15) = weightsOf (m ((c.tc : Thread nD τ).loc main_arg0))
          (m ((c.tc : Thread nD τ).loc main_arg1)) (m ((c.tc : Thread nD τ).loc main_arg2))
      ∧ r.2.mem ((c.tc : Thread nD τ).loc main_indices) = numbersOf (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono
    (fun _ h c => ⟨(h c).1.trans ((val_main_v15_eq m c).trans (weights _ _ _)),
      (h c).2.1.trans ((val_main_indices_eq _ _ _).trans (numbers _ _ _)), (h c).2.2⟩)
    (Cert.ReferenceIdeal.Value.run (F := Ideal) m ρ)

end Cert.ReferenceIdeal.Layer

end
-- ==== Proof.lean ====
/-
  The claims assembled: the two programs' runs (`Proof/Array.lean`, `Proof/Reference.lean`) end in the same weights and
  numbers, those of the layer (`Proof/Layer.lean`), where the arguments are finite (`Proof/Finite.lean`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_arguments
public import proofs.«01_k».proof.Proof.Array
public import proofs.«01_k».proof.Proof.Finite
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Routing

/-- The reference runs, leaves its arguments unchanged, and ends with every semaphore counter at zero. -/
theorem reference_frame : Cert.quiescent_ReferenceIdeal := fun m ρ _ =>
  (θ_run Cert.ReferenceIdeal.defs _ _).mono
    (fun r h => ⟨fun c => (h c).2.2, sem_eq_zero_of_no_sems (by decide) r.2⟩) (Cert.ReferenceIdeal.Layer.run m ρ)

/-- From starts with the same finite arguments the kernel and the reference end with the same results: the layer's. -/
theorem same_results : Cert.algebraic_KernelIdeal_ReferenceIdeal_pre_finite_arguments := by
  intro m ρ m' ρ' hpre hagree
  have hw : ∀ c t e, ⊥ < scoreOf (KernelIdeal.Array.tokens m c) (KernelIdeal.Array.matrix m c) (KernelIdeal.Array.bias m c) t e := by
    intro c
    obtain ⟨hx, hg, hb⟩ := Pre_finite_arguments.finite _ _ _ (hpre c)
    exact bot_lt_scoreOf _ _ _ hx hg hb
  refine ⟨fun c => weightsOf (KernelIdeal.Array.tokens m c) (KernelIdeal.Array.matrix m c) (KernelIdeal.Array.bias m c),
    fun c => numbersOf (KernelIdeal.Array.tokens m c) (KernelIdeal.Array.matrix m c) (KernelIdeal.Array.bias m c),
    KernelIdeal.Array.run m ρ hw, ?_⟩
  refine (θ_run Cert.ReferenceIdeal.defs _ _).mono (fun r h c => ?_) (Cert.ReferenceIdeal.Layer.run m' ρ')
  obtain ⟨h0, h1, h2⟩ := hagree c
  refine ⟨(h c).1.trans ?_, (h c).2.1.trans ?_, (h c).2.2⟩ <;> rw [h0, h1, h2]

/-- Every claim. -/
theorem claim : Cert.Claim :=
  ⟨Cert.Kernel.Gen.facts, Cert.KernelIdeal.Gen.facts, Cert.ReferenceIdeal.Gen.facts, Cert.Pre_finite_arguments.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    same_results⟩

end Cert.Proof

end
